-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7168 : Shape := ⟨3, ![192, 1, 7168]⟩
abbrev S3584x8192 : Shape := ⟨2, ![3584, 8192]⟩
abbrev S56x8192 : Shape := ⟨2, ![56, 8192]⟩
abbrev S192x7168 : Shape := ⟨2, ![192, 7168]⟩
abbrev S192x8192 : Shape := ⟨2, ![192, 8192]⟩
abbrev S3584x512 : Shape := ⟨2, ![3584, 512]⟩
abbrev S56x512 : Shape := ⟨2, ![56, 512]⟩
abbrev S192x512 : Shape := ⟨2, ![192, 512]⟩
abbrev S896x512 : Shape := ⟨2, ![896, 512]⟩
abbrev S896x1x512 : Shape := ⟨3, ![896, 1, 512]⟩
abbrev S896x8x512 : Shape := ⟨3, ![896, 8, 512]⟩
abbrev S7168x512 : Shape := ⟨2, ![7168, 512]⟩
abbrev S56x128x512 : Shape := ⟨3, ![56, 128, 512]⟩
abbrev S56x1x512 : Shape := ⟨3, ![56, 1, 512]⟩
abbrev S192x1x8192 : Shape := ⟨3, ![192, 1, 8192]⟩

abbrev nBuf : Space → Nat
  | .hbm => 6
  | .vmem => 7
  | .smem => 0
  | _ => 0

abbrev bufTy : (tb : Table) → Fin (tcTables nBuf tb) → BufTy
  | .hbm, ⟨0, _⟩ => ⟨S192x1x7168, .bf16⟩
  | .hbm, ⟨1, _⟩ => ⟨S3584x8192, .i8⟩
  | .hbm, ⟨2, _⟩ => ⟨S56x8192, .bf16⟩
  | .hbm, ⟨3, _⟩ => ⟨S192x7168, .bf16⟩
  | .hbm, ⟨4, _⟩ => ⟨S192x8192, .bf16⟩
  | .hbm, ⟨5, _⟩ => ⟨S192x1x8192, .bf16⟩
  | .local _ .vmem, ⟨0, _⟩ => ⟨S192x7168, .bf16⟩
  | .local _ .vmem, ⟨1, _⟩ => ⟨S3584x512, .i8⟩
  | .local _ .vmem, ⟨2, _⟩ => ⟨S3584x512, .i8⟩
  | .local _ .vmem, ⟨3, _⟩ => ⟨S56x512, .bf16⟩
  | .local _ .vmem, ⟨4, _⟩ => ⟨S56x512, .bf16⟩
  | .local _ .vmem, ⟨5, _⟩ => ⟨S192x512, .bf16⟩
  | .local _ .vmem, ⟨6, _⟩ => ⟨S192x512, .bf16⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x7168 : Shape := ⟨3, ![192, 1, 7168]⟩
abbrev S3584x8192 : Shape := ⟨2, ![3584, 8192]⟩
abbrev S56x8192 : Shape := ⟨2, ![56, 8192]⟩
abbrev S192x56x64x2 : Shape := ⟨4, ![192, 56, 64, 2]⟩
abbrev S192x56x64x1 : Shape := ⟨4, ![192, 56, 64, 1]⟩
abbrev S192x56x64 : Shape := ⟨3, ![192, 56, 64]⟩
abbrev S56x64x8192 : Shape := ⟨3, ![56, 64, 8192]⟩
abbrev S56x1x8192 : Shape := ⟨3, ![56, 1, 8192]⟩
abbrev S_ : Shape := ⟨0, ![]⟩
abbrev S192x8192 : Shape := ⟨2, ![192, 8192]⟩
abbrev S192x1x8192 : Shape := ⟨3, ![192, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S192x1x7168, .bf16⟩
  | .hbm, ⟨1, _⟩ => ⟨S3584x8192, .i8⟩
  | .hbm, ⟨2, _⟩ => ⟨S56x8192, .bf16⟩
  | .hbm, ⟨3, _⟩ => ⟨S192x56x64x2, .bf16⟩
  | .hbm, ⟨4, _⟩ => ⟨S192x56x64x1, .bf16⟩
  | .hbm, ⟨5, _⟩ => ⟨S192x56x64, .bf16⟩
  | .hbm, ⟨6, _⟩ => ⟨S192x56x64x1, .bf16⟩
  | .hbm, ⟨7, _⟩ => ⟨S192x56x64, .bf16⟩
  | .hbm, ⟨8, _⟩ => ⟨S56x64x8192, .i8⟩
  | .hbm, ⟨9, _⟩ => ⟨S56x64x8192, .i32⟩
  | .hbm, ⟨10, _⟩ => ⟨S56x1x8192, .bf16⟩
  | .hbm, ⟨11, _⟩ => ⟨S_, .i32⟩
  | .hbm, ⟨12, _⟩ => ⟨S56x64x8192, .i32⟩
  | .hbm, ⟨13, _⟩ => ⟨S56x64x8192, .i32⟩
  | .hbm, ⟨14, _⟩ => ⟨S56x64x8192, .bf16⟩
  | .hbm, ⟨15, _⟩ => ⟨S_, .bf16⟩
  | .hbm, ⟨16, _⟩ => ⟨S56x64x8192, .bf16⟩
  | .hbm, ⟨17, _⟩ => ⟨S56x64x8192, .bf16⟩
  | .hbm, ⟨18, _⟩ => ⟨S56x64x8192, .bf16⟩
  | .hbm, ⟨19, _⟩ => ⟨S56x64x8192, .bf16⟩
  | .hbm, ⟨20, _⟩ => ⟨S_, .i32⟩
  | .hbm, ⟨21, _⟩ => ⟨S56x64x8192, .i32⟩
  | .hbm, ⟨22, _⟩ => ⟨S56x64x8192, .i32⟩
  | .hbm, ⟨23, _⟩ => ⟨S56x64x8192, .bf16⟩
  | .hbm, ⟨24, _⟩ => ⟨S_, .bf16⟩
  | .hbm, ⟨25, _⟩ => ⟨S56x64x8192, .bf16⟩
  | .hbm, ⟨26, _⟩ => ⟨S56x64x8192, .bf16⟩
  | .hbm, ⟨27, _⟩ => ⟨S56x64x8192, .bf16⟩
  | .hbm, ⟨28, _⟩ => ⟨S56x64x8192, .bf16⟩
  | .hbm, ⟨29, _⟩ => ⟨S192x8192, .f32⟩
  | .hbm, ⟨30, _⟩ => ⟨S192x8192, .f32⟩
  | .hbm, ⟨31, _⟩ => ⟨S192x8192, .f32⟩
  | .hbm, ⟨32, _⟩ => ⟨S192x8192, .bf16⟩
  | .hbm, ⟨33, _⟩ => ⟨S192x1x8192, .bf16⟩
  | _, _ => ⟨S192x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Words.lean ====
/-
  THE NIBBLES. A packed byte holds two unsigned 4-bit codes, each standing for the integer `code − 8`. `nibble b h` is that
  integer for half `h` of byte `b` (0 the low half). Both programs read it: the reference masks or shifts the byte
  and subtracts 8; the kernel flips the top bit of each of the eight codes in a 32-bit word and reads each as a signed
  4-bit number. Each lemma below says one of these readings is `nibble`.
-/
module

public import Idealize.ShloMosaic.PureOps
public import Idealize.ShloMosaic.PureOps.Ideal
public import Mathlib.Tactic.IntervalCases
public import Mathlib.Tactic.FinCases

@[expose] public section

noncomputable section

namespace Cert.Proof.Words

open Idealize.ShloMosaic

/-- The integer half `h` of a packed byte stands for: its 4-bit code less 8. -/
def nibble (b : BitVec 8) (h : ℕ) : ℤ := ((b.extractLsb' (4 * h) 4).toNat : ℤ) - 8

/-- Flipping the top bit of an unsigned 4-bit code and reading it signed subtracts 8. -/
theorem toInt_flip : ∀ v : BitVec 4, (v ^^^ 8#4).toInt = (v.toNat : ℤ) - 8 := by decide

/-- The kernel's reading of code `t` of a word `w`: shifted up so the code is the top one, down again with its sign, and
    narrowed to 4 bits. Bit `i` of what is left is bit `4t + i` of the flipped word. -/
theorem kernel_bit (w : BitVec 32) (t : ℕ) (ht : t < 8) (i : ℕ) (hi : i < 4) :
    ((IntOp.shrsi .vector (IntOp.shli .vector (IntOp.xori w 2290649224#32)
        (IntOp.subi 28#32 (IntOp.muli 4#32 (BitVec.ofNat 32 t)))) 28#32).setWidth 4).getLsbD i
      = (w.getLsbD (4 * t + i) ^^ decide (i = 3)) := by
  have hx : IntOp.subi 28#32 (IntOp.muli 4#32 (BitVec.ofNat 32 t)) = BitVec.ofNat 32 (28 - 4 * t) := by
    interval_cases t <;> rfl
  rw [hx]
  have hn : (BitVec.ofNat 32 (28 - 4 * t)).toNat = 28 - 4 * t := by
    rw [BitVec.toNat_ofNat]; omega
  have hc : (2290649224#32 : BitVec 32).getLsbD (4 * t + i) = decide (i = 3) := by
    interval_cases t <;> interval_cases i <;> rfl
  unfold IntOp.shrsi IntOp.shli IntOp.xori
  rw [if_pos (show (28#32 : BitVec 32).toNat < 32 by decide), if_pos (show (BitVec.ofNat 32 (28 - 4 * t)).toNat < 32 by omega)]
  rw [BitVec.getLsbD_setWidth, BitVec.sshiftRight', BitVec.getLsbD_sshiftRight]
  have e1 : (28#32 : BitVec 32).toNat = 28 := rfl
  rw [e1, BitVec.shiftLeft_eq', hn, if_pos (show 28 + i < 32 by omega), BitVec.getLsbD_shiftLeft, BitVec.getLsbD_xor]
  have e2 : 28 + i - (28 - 4 * t) = 4 * t + i := by omega
  rw [e2, hc]
  simp [show i < 4 from hi, show ¬ (32 ≤ i) by omega, show 28 + i < 32 by omega, show ¬ (28 + i < 28 - 4 * t) by omega]

/-- THE KERNEL'S CODE: if the four bits at `4t` of the word are half `h` of byte `b`, the signed 4-bit number the kernel
    reads is `nibble b h`. -/
theorem kernel_nibble (w : BitVec 32) (t : ℕ) (ht : t < 8) (b : BitVec 8) (h : ℕ)
    (hw : ∀ i, i < 4 → w.getLsbD (4 * t + i) = b.getLsbD (4 * h + i)) :
    ((IntOp.shrsi .vector (IntOp.shli .vector (IntOp.xori w 2290649224#32)
        (IntOp.subi 28#32 (IntOp.muli 4#32 (BitVec.ofNat 32 t)))) 28#32).setWidth 4).toInt = nibble b h := by
  have e : (IntOp.shrsi .vector (IntOp.shli .vector (IntOp.xori w 2290649224#32)
        (IntOp.subi 28#32 (IntOp.muli 4#32 (BitVec.ofNat 32 t)))) 28#32).setWidth 4
      = b.extractLsb' (4 * h) 4 ^^^ 8#4 := by
    apply BitVec.eq_of_getLsbD_eq
    intro i hi
    have h8 : (8#4 : BitVec 4).getLsbD i = decide (i = 3) := by
      have : i < 4 := hi
      interval_cases i <;> rfl
    rw [kernel_bit w t ht i hi, hw i hi, BitVec.getLsbD_xor, h8, BitVec.getLsbD_extractLsb']
    simp [show i < 4 from hi]
  rw [e, toInt_flip, nibble]

/-- THE REFERENCE'S LOW CODE: the byte widened and masked to its low four bits. -/
theorem ref_low : ∀ b : BitVec 8, (IntOp.andi (b.setWidth 32) 15#32).toInt = nibble b 0 + 8 := by
  unfold nibble; decide +kernel

/-- THE REFERENCE'S HIGH CODE: the byte widened and shifted down by four. -/
theorem ref_high : ∀ b : BitVec 8, (IntOp.shrsi .host (b.setWidth 32) 4#32).toInt = nibble b 1 + 8 := by
  intro b
  unfold IntOp.shrsi
  rw [if_pos (by decide)]
  revert b
  unfold nibble; decide +kernel

/-- The constant the reference subtracts. -/
theorem ofBits_eight : Ideal.ofBits .bf16 0x4100#16 = ((8 : ℝ) : EReal) := by
  simp [Ideal.ofBits, Ideal.ieee, -EReal.coe_mul]; norm_num

/-- Subtracting it from a code read as an integer leaves the nibble, exactly. -/
theorem sub_eight (z n : ℤ) (h : z = n + 8) : ((z : ℝ) : EReal) - Ideal.ofBits .bf16 0x4100#16 = ((n : ℝ) : EReal) := by
  rw [ofBits_eight, ← EReal.coe_sub, h]
  congr 1
  push_cast
  ring

end Cert.Proof.Words

end
-- ==== Proof.Block.lean ====
/-
  WHAT ONE BLOCK COMPUTES. The kernel's stored value (`k0_pay1`) at row `r`, lane `l` of a block, over the reals: the sum
  over the 7168 input features of the activation times the dequantized weight, where the weight of feature `k` is the
  nibble `k % 2` of packed byte row `k / 2`, times the scale of group `k / 128`.
-/
module

public import proofs.«01_k».proof.Proof.Words
public import proofs.«01_k».proof.Proof.Gen.KernelIdeal
public import proofs.«01_k».proof.Proof.Gen.KernelIdeal.Skeleton
public import Idealize.ShloMosaic.Lib.BitcastFour
public import Idealize.ShloMosaic.Lib.ValueIdx
public import Idealize.ShloMosaic.Lib.Pipeline.Value

@[expose] public section

set_option maxRecDepth 16384

noncomputable section

open scoped BigOperators

namespace Cert.Proof.Block

open Idealize.ShloMosaic Idealize.ShloMosaic.ValueIdx Cert.KernelIdeal Cert.KernelIdeal.Gen Cert.Proof.Words

/-- The signed 4-bit codes of a block: four byte rows read as one word, the top bit of each code flipped, the eight codes of a word
    laid out as eight rows. -/
def codes (v0 : Vec Ideal S3584x512 .i8) : IVec S7168x512 4 :=
  shapeCast S7168x512 (trunci 4 (shrsi (shli
    (broadcastTo S896x8x512 (shapeCast S896x1x512 (shapeCast S896x1x512
      (xori (bitcast S896x512 32 v0 bitcasts_S3584x512_w8_S896x512_w32) (broadcast S896x512 2290649224#32))
      shapeCasts_S896x512_S896x1x512) shapeCasts_S896x1x512_S896x1x512) broadcasts_S896x1x512_S896x8x512)
    (subi (broadcast S896x8x512 28#32) (muli (broadcast S896x8x512 4#32) (iota .tc S896x8x512 32 [1] iota_S896x8x512_d1_w32))))
    (broadcast S896x8x512 28#32)) natLt_4_32) shapeCasts_S896x8x512_S7168x512

/-- The dequantized weights of a block: each code as a number, times its group's scale. -/
def weights (v0 : Vec Ideal S3584x512 .i8) (v1 : Vec Ideal S56x512 .bf16) : FVec Ideal S7168x512 .bf16 :=
  shapeCast S7168x512 (mulf (shapeCast S56x128x512 (sitofp .bf16 (codes v0) : FVec Ideal S7168x512 .bf16) shapeCasts_S7168x512_S56x128x512)
    (broadcastTo S56x128x512 (shapeCast S56x1x512 v1 shapeCasts_S56x512_S56x1x512) broadcasts_S56x1x512_S56x128x512))
    shapeCasts_S56x128x512_S7168x512

/-- The stored value is the rounding of the activations' product with the weights. -/
theorem k0_pay1_eq (v0 : Vec Ideal S3584x512 .i8) (v1 : Vec Ideal S56x512 .bf16) (v24 : Vec Ideal S192x7168 .bf16) :
    k0_pay1 v0 v1 v24 = truncf .bf16 (matmul dot_S192x7168_S7168x512_S192x512_1_0_0_1_n_n none
      (shapeCast S192x7168 v24 shapeCasts_S192x7168_S192x7168 : FVec Ideal S192x7168 .bf16) (weights v0 v1) (constant S192x512 .f32 0x00000000#32)) bitsLt_bf16_f32 := rfl

/-- Row `i` of words broadcast over the eight codes reads the word at every code. -/
theorem spread_apply (w : IVec S896x512 32) (i : Fin 896) (t : Fin 8) (l : Fin 512) :
    broadcastTo S896x8x512 (shapeCast S896x1x512 (shapeCast S896x1x512 w shapeCasts_S896x512_S896x1x512)
      shapeCasts_S896x1x512_S896x1x512) broadcasts_S896x1x512_S896x8x512 (ix3 i t l) = w (ix2 i l) := by
  rw [broadcastTo_apply _ _ (ix3 i t l) (ix3 i (0 : Fin 1) l) (by
    intro a
    match a with
    | ⟨0, _⟩ => rfl
    | ⟨1, _⟩ => rfl
    | ⟨2, _⟩ => rfl), shapeCast_self]
  exact shapeCast_apply w shapeCasts_S896x512_S896x1x512 (ix3 i (0 : Fin 1) l) (ix2 i l) (by
    rw [Shape.rowMajor_val_two, Shape.rowMajor_val_three]
    show i.val * 512 + l.val = (i.val * 1 + 0) * 512 + l.val
    omega)

/-- Code `k` of lane `l`, read signed, is the nibble `k % 2` of byte row `k / 2`. -/
theorem codes_apply (v0 : Vec Ideal S3584x512 .i8) (k : Fin 7168) (l : Fin 512) :
    (codes v0 (ix2 k l)).toInt = nibble (v0 (ix2 (⟨k.val / 2, by omega⟩ : Fin 3584) l)) (k.val % 2) := by
  unfold codes
  rw [shapeCast_apply _ shapeCasts_S896x8x512_S7168x512 (ix2 k l)
    (ix3 (⟨k.val / 8, by omega⟩ : Fin 896) (⟨k.val % 8, by omega⟩ : Fin 8) l) (by
      rw [Shape.rowMajor_val_two, Shape.rowMajor_val_three]
      show (k.val / 8 * 8 + k.val % 8) * 512 + l.val = k.val * 512 + l.val
      omega)]
  unfold trunci shrsi shli subi muli
  rw [spread_apply, iota_single_apply]
  refine kernel_nibble _ (k.val % 8) (by omega) _ _ fun i hi => ?_
  refine (bitcast_8_32_getLsbD_ix2 (R := 3584) (r := 896) (n := 512) v0 bitcasts_S3584x512_w8_S896x512_w32
    (⟨k.val / 8, by omega⟩ : Fin 896) l (4 * (k.val % 8) + i) (by omega) (⟨k.val / 2, by omega⟩ : Fin 3584) (by
      show k.val / 2 = 4 * (k.val / 8) + (4 * (k.val % 8) + i) / 8
      omega)).trans ?_
  congr 1
  omega

/-- Weight `k` of lane `l` is its nibble times the scale of group `k / 128`. -/
theorem weights_apply (v0 : Vec Ideal S3584x512 .i8) (v1 : Vec Ideal S56x512 .bf16) (k : Fin 7168) (l : Fin 512) :
    weights v0 v1 (ix2 k l)
      = (((nibble (v0 (ix2 (⟨k.val / 2, by omega⟩ : Fin 3584) l)) (k.val % 2) : ℤ) : ℝ) : EReal)
        * v1 (ix2 (⟨k.val / 128, by omega⟩ : Fin 56) l) := by
  unfold weights
  rw [shapeCast_apply _ shapeCasts_S56x128x512_S7168x512 (ix2 k l)
    (ix3 (⟨k.val / 128, by omega⟩ : Fin 56) (⟨k.val % 128, by omega⟩ : Fin 128) l) (by
      rw [Shape.rowMajor_val_two, Shape.rowMajor_val_three]
      show (k.val / 128 * 128 + k.val % 128) * 512 + l.val = k.val * 512 + l.val
      omega), mulf_apply]
  rw [shapeCast_apply _ shapeCasts_S7168x512_S56x128x512
    (ix3 (⟨k.val / 128, by omega⟩ : Fin 56) (⟨k.val % 128, by omega⟩ : Fin 128) l) (ix2 k l) (by
      rw [Shape.rowMajor_val_two, Shape.rowMajor_val_three]
      show k.val * 512 + l.val = (k.val / 128 * 128 + k.val % 128) * 512 + l.val
      omega)]
  rw [broadcastTo_apply _ _ (ix3 (⟨k.val / 128, by omega⟩ : Fin 56) (⟨k.val % 128, by omega⟩ : Fin 128) l)
    (ix3 (⟨k.val / 128, by omega⟩ : Fin 56) (0 : Fin 1) l) (by
    intro a
    match a with
    | ⟨0, _⟩ => rfl
    | ⟨1, _⟩ => rfl
    | ⟨2, _⟩ => rfl)]
  rw [shapeCast_apply v1 shapeCasts_S56x512_S56x1x512 (ix3 (⟨k.val / 128, by omega⟩ : Fin 56) (0 : Fin 1) l)
    (ix2 (⟨k.val / 128, by omega⟩ : Fin 56) l) (by
      rw [Shape.rowMajor_val_two, Shape.rowMajor_val_three]
      show k.val / 128 * 512 + l.val = (k.val / 128 * 1 + 0) * 512 + l.val
      omega)]
  rw [← codes_apply v0 k l]
  rfl

/-- The product's dimension numbers. -/
abbrev D : DotDims S192x7168 S7168x512 S192x512 := dot_S192x7168_S7168x512_S192x512_1_0_0_1_n_n

/-- Axis 0 of the left operand's index. -/
theorem D_lhs0 (j : S192x512.Idx) (q : D.contr.Idx) : (D.lhsIdx j q 0 : ℕ) = j 0 := by
  simp [DotDims.lhsIdx, D, dot_S192x7168_S7168x512_S192x512_1_0_0_1_n_n]; rfl
/-- Axis 1 of the left operand's index. -/
theorem D_lhs1 (j : S192x512.Idx) (q : D.contr.Idx) : (D.lhsIdx j q 1 : ℕ) = q ⟨0, by decide⟩ := by
  simp [DotDims.lhsIdx, D, dot_S192x7168_S7168x512_S192x512_1_0_0_1_n_n]; rfl
/-- Axis 0 of the right operand's index. -/
theorem D_rhs0 (j : S192x512.Idx) (q : D.contr.Idx) : (D.rhsIdx j q 0 : ℕ) = q ⟨0, by decide⟩ := by
  simp [DotDims.rhsIdx, D, dot_S192x7168_S7168x512_S192x512_1_0_0_1_n_n]; rfl
/-- Axis 1 of the right operand's index. -/
theorem D_rhs1 (j : S192x512.Idx) (q : D.contr.Idx) : (D.rhsIdx j q 1 : ℕ) = j 1 := by
  simp [DotDims.rhsIdx, D, dot_S192x7168_S7168x512_S192x512_1_0_0_1_n_n]; rfl

/-- THE BLOCK: what the kernel stores at row `r`, lane `l`. -/
theorem k0_pay1_apply (v0 : Vec Ideal S3584x512 .i8) (v1 : Vec Ideal S56x512 .bf16) (v24 : Vec Ideal S192x7168 .bf16)
    (r : Fin 192) (l : Fin 512) :
    k0_pay1 v0 v1 v24 (ix2 r l) = ∑ k : Fin 7168, v24 (ix2 r k)
      * ((((nibble (v0 (ix2 (⟨k.val / 2, by omega⟩ : Fin 3584) l)) (k.val % 2) : ℤ) : ℝ) : EReal)
        * v1 (ix2 (⟨k.val / 128, by omega⟩ : Fin 56) l)) := by
  rw [k0_pay1_eq, truncf_apply, shapeCast_self]
  show Ideal.ofBits .f32 0x00000000#32 + ∑ q : D.contr.Idx, v24 (D.lhsIdx (ix2 r l) q) * weights v0 v1 (D.rhsIdx (ix2 r l) q) = _
  rw [show Ideal.ofBits .f32 0x00000000#32 = 0 by simp [Ideal.ofBits, Ideal.ieee], zero_add,
    ← Equiv.sum_comp (contrEquiv1 D 7168 (by decide) (by decide)).symm]
  refine Finset.sum_congr rfl fun k _ => ?_
  have hq := contrEquiv1_symm_val D 7168 (by decide) (by decide) k
  have e1 : D.lhsIdx (ix2 r l) ((contrEquiv1 D 7168 (by decide) (by decide)).symm k) = ix2 r k :=
    Shape.idx_ext₂ (D_lhs0 _ _) ((D_lhs1 _ _).trans hq)
  have e2 : D.rhsIdx (ix2 r l) ((contrEquiv1 D 7168 (by decide) (by decide)).symm k) = ix2 k l :=
    Shape.idx_ext₂ ((D_rhs0 _ _).trans hq) (D_rhs1 _ _)
  rw [e1, e2, weights_apply]

end Cert.Proof.Block

end
-- ==== Proof.Spec.lean ====
/-
  THE COMMON VALUE. `entry x p s r n` is the number both programs leave at row `r`, output feature `n`: the sum over the
  7168 input features `k` of the activation `x[r, 0, k]` times the dequantized weight, the nibble `k % 2` of packed byte
  `p[k / 2, n]` times the scale `s[k / 128, n]`. Also how that sum splits by group, byte and half.
-/
module

public import proofs.«01_k».proof.Proof.Words
public import Idealize.ShloMosaic.Lib.ValueIdxCore

@[expose] public section

noncomputable section

open scoped BigOperators

namespace Cert.Proof.Spec

open Idealize.ShloMosaic Idealize.ShloMosaic.ValueIdx Cert.Proof.Words

/-- The dequantized weight of input feature `k`, output feature `n`. -/
def weight (p : (⟨2, ![3584, 8192]⟩ : Shape).Idx → BitVec 8) (s : (⟨2, ![56, 8192]⟩ : Shape).Idx → EReal) (k : Fin 7168)
    (n : Fin 8192) : EReal :=
  (((nibble (p (ix2 (⟨k.val / 2, by omega⟩ : Fin 3584) n)) (k.val % 2) : ℤ) : ℝ) : EReal)
    * s (ix2 (⟨k.val / 128, by omega⟩ : Fin 56) n)

/-- The linear layer's value at row `r`, output feature `n`. -/
def entry (x : (⟨3, ![192, 1, 7168]⟩ : Shape).Idx → EReal) (p : (⟨2, ![3584, 8192]⟩ : Shape).Idx → BitVec 8)
    (s : (⟨2, ![56, 8192]⟩ : Shape).Idx → EReal) (r : Fin 192) (n : Fin 8192) : EReal :=
  ∑ k : Fin 7168, x (ix3 r (0 : Fin 1) k) * weight p s k n

/-- Input feature `128 g + 2 h + b`: group `g`, byte `h` of the group, half `b` of the byte. -/
def feature (g : Fin 56) (h : Fin 64) (b : Fin 2) : Fin 7168 := ⟨128 * g.val + 2 * h.val + b.val, by omega⟩

/-- Input features are groups, bytes and halves. -/
def featureEquiv : Fin 7168 ≃ (Fin 56 × Fin 64) × Fin 2 where
  toFun k := ((⟨k.val / 128, by omega⟩, ⟨k.val % 128 / 2, by omega⟩), ⟨k.val % 2, by omega⟩)
  invFun q := feature q.1.1 q.1.2 q.2
  left_inv k := by
    apply Fin.ext
    show 128 * (k.val / 128) + 2 * (k.val % 128 / 2) + k.val % 2 = k.val
    omega
  right_inv q := by
    obtain ⟨⟨g, h⟩, b⟩ := q
    refine Prod.ext (Prod.ext (Fin.ext ?_) (Fin.ext ?_)) (Fin.ext ?_)
    · show (128 * g.val + 2 * h.val + b.val) / 128 = g.val
      omega
    · show (128 * g.val + 2 * h.val + b.val) % 128 / 2 = h.val
      omega
    · show (128 * g.val + 2 * h.val + b.val) % 2 = b.val
      omega

/-- A sum over the input features is the sum over the low halves plus the sum over the high halves, each over groups and
    bytes. -/
theorem sum_features (f : Fin 7168 → EReal) :
    ∑ k, f k = (∑ g : Fin 56, ∑ h : Fin 64, f (feature g h 0)) + ∑ g : Fin 56, ∑ h : Fin 64, f (feature g h 1) := by
  rw [← Equiv.sum_comp featureEquiv.symm f, Fintype.sum_prod_type_right, Fin.sum_univ_two, Fintype.sum_prod_type,
    Fintype.sum_prod_type]
  rfl

/-- The weight of feature `128 g + 2 h + b`: half `b` of byte `64 g + h` times the scale of group `g`. -/
theorem weight_feature (p : (⟨2, ![3584, 8192]⟩ : Shape).Idx → BitVec 8) (s : (⟨2, ![56, 8192]⟩ : Shape).Idx → EReal)
    (g : Fin 56) (h : Fin 64) (b : Fin 2) (n : Fin 8192) :
    weight p s (feature g h b) n
      = (((nibble (p (ix2 (⟨64 * g.val + h.val, by omega⟩ : Fin 3584) n)) b.val : ℤ) : ℝ) : EReal) * s (ix2 g n) := by
  have e1 : (⟨(feature g h b).val / 2, by omega⟩ : Fin 3584) = ⟨64 * g.val + h.val, by omega⟩ :=
    Fin.ext (by show (128 * g.val + 2 * h.val + b.val) / 2 = 64 * g.val + h.val; omega)
  have e2 : (feature g h b).val % 2 = b.val := by
    show (128 * g.val + 2 * h.val + b.val) % 2 = b.val; omega
  have e3 : (⟨(feature g h b).val / 128, by omega⟩ : Fin 56) = g :=
    Fin.ext (by show (128 * g.val + 2 * h.val + b.val) / 128 = g.val; omega)
  unfold weight
  rw [e1, e2, e3]

end Cert.Proof.Spec

end
-- ==== Proof.Array.lean ====
/-
  WHAT THE ARRAY HOLDS. Grid point `t` of the kernel writes columns `512 t … 512 t + 511` of the result from the same
  columns of the packed bytes and of the scales and from all the activations. The blocks tile the array, so after the run
  it is the common value (`Spec.entry`) of the arguments at every row and column (`final`).
-/
module

public import proofs.«01_k».proof.Proof.Block
public import proofs.«01_k».proof.Proof.Spec
public import proofs.«01_k».proof.Proof.Gen.KernelIdeal.Frame

@[expose] public section

set_option maxRecDepth 16384

noncomputable section

open scoped BigOperators

namespace Cert.Proof.Array

open Idealize.ShloMosaic Idealize.ShloMosaic.TcCoe Idealize.ShloMosaic.ValueIdx Idealize.SL.Sem Cert.KernelIdeal
open Cert.KernelIdeal.Gen Cert.Proof.Words Cert.Proof.Spec Cert.Proof.Block
open Idealize.ShloMosaic.Pipeline (Dat)

variable (m : (ℓ : Loc nD τ sig) → Buf (Elt Ideal) ℓ)

/-- The zero offset, spelt as a function. -/
theorem hz : (![0, 0] : Fin 2 → Nat) = fun _ => 0 := funext fun a => by fin_cases a <;> rfl

/-- The activations' window reads their only block at every grid point `t`. -/
theorem idx0 : ∀ t : Fin cfg0.N, win0_0.index t (0 : Fin 2) = 0 ∧ win0_0.index t (1 : Fin 2) = 0 :=
  (by decide +kernel : ∀ t : Fin grid0.N, _)
/-- The packed bytes' window reads block `t` along the output features. -/
theorem idx1 : ∀ t : Fin cfg0.N, win0_1.index t (0 : Fin 2) = 0 ∧ win0_1.index t (1 : Fin 2) = t.val :=
  (by decide +kernel : ∀ t : Fin grid0.N, _)
/-- The scales' window reads block `t` along the output features. -/
theorem idx2 : ∀ t : Fin cfg0.N, win0_2.index t (0 : Fin 2) = 0 ∧ win0_2.index t (1 : Fin 2) = t.val :=
  (by decide +kernel : ∀ t : Fin grid0.N, _)
/-- The result's window writes block `t` along the output features. -/
theorem idx3 : ∀ t : Fin cfg0.N, win0_3.index t (0 : Fin 2) = 0 ∧ win0_3.index t (1 : Fin 2) = t.val :=
  (by decide +kernel : ∀ t : Fin grid0.N, _)

/-- There are sixteen blocks. -/
theorem t_lt (t : Fin cfg0.N) : t.val < 16 := lt_of_lt_of_eq t.isLt N_0

/-- Column `l` of block `t`. -/
def col (t : Fin cfg0.N) (l : Fin 512) : Fin 8192 := ⟨512 * t.val + l.val, by have := t_lt t; omega⟩

/-- An index of the activations' block is the same index of their array. -/
theorem emb0 (t : Fin cfg0.N) (r : Fin 192) (k : Fin 7168) :
    ((cfg0.win 0).blk t).view.emb (ix2 r k) = (ix2 r k : S192x7168.Idx) := by
  obtain ⟨e0, e1⟩ := idx0 t
  refine Shape.idx_ext₂ ?_ ?_
  · show win0_0.index t (0 : Fin 2) * 192 + 1 * r.val = r.val; omega
  · show win0_0.index t (1 : Fin 2) * 7168 + 1 * k.val = k.val; omega

/-- Lane `l` of the packed bytes' block `t` is column `512 t + l` of their array. -/
theorem emb1 (t : Fin cfg0.N) (q : Fin 3584) (l : Fin 512) :
    ((cfg0.win 1).blk t).view.emb (ix2 q l) = (ix2 q (col t l) : S3584x8192.Idx) := by
  obtain ⟨e0, e1⟩ := idx1 t
  refine Shape.idx_ext₂ ?_ ?_
  · show win0_1.index t (0 : Fin 2) * 3584 + 1 * q.val = q.val; omega
  · show win0_1.index t (1 : Fin 2) * 512 + 1 * l.val = 512 * t.val + l.val; omega

/-- Lane `l` of the scales' block `t` is column `512 t + l` of their array. -/
theorem emb2 (t : Fin cfg0.N) (g : Fin 56) (l : Fin 512) :
    ((cfg0.win 2).blk t).view.emb (ix2 g l) = (ix2 g (col t l) : S56x8192.Idx) := by
  obtain ⟨e0, e1⟩ := idx2 t
  refine Shape.idx_ext₂ ?_ ?_
  · show win0_2.index t (0 : Fin 2) * 56 + 1 * g.val = g.val; omega
  · show win0_2.index t (1 : Fin 2) * 512 + 1 * l.val = 512 * t.val + l.val; omega

/-- Lane `l` of the result's block `t` is column `512 t + l` of its array. -/
theorem emb3 (t : Fin cfg0.N) (r : Fin 192) (l : Fin 512) :
    ((cfg0.win 3).blk t).view.emb (ix2 r l) = (ix2 r (col t l) : S192x8192.Idx) := by
  obtain ⟨e0, e1⟩ := idx3 t
  refine Shape.idx_ext₂ ?_ ?_
  · show win0_3.index t (0 : Fin 2) * 192 + 1 * r.val = r.val; omega
  · show win0_3.index t (1 : Fin 2) * 512 + 1 * l.val = 512 * t.val + l.val; omega

/-- The activations as the grid finds them: the argument with its unit axis dropped. -/
theorem V_x (c : Dev nD) (r : Fin 192) (k : Fin 7168) :
    (V m c main_v0 : S192x7168.Idx → EReal) (ix2 r k)
      = (m ((c : Thread nD τ).loc main_arg0) : S192x1x7168.Idx → EReal) (ix3 r (0 : Fin 1) k) := by
  entry_read
  exact shapeCast_apply _ _ (ix2 r k) (ix3 r (0 : Fin 1) k) (by
    rw [Shape.rowMajor_val_two, Shape.rowMajor_val_three]
    show (r.val * 1 + 0) * 7168 + k.val = r.val * 7168 + k.val
    omega)

/-- The activations' block, read off the argument. -/
theorem iblk0_apply (c : Dev nD) (t : Fin cfg0.N) (r : Fin 192) (k : Fin 7168) :
    (iblk m c 0 t : S192x7168.Idx → EReal) (ix2 r k)
      = (m ((c : Thread nD τ).loc main_arg0) : S192x1x7168.Idx → EReal) (ix3 r (0 : Fin 1) k) := by
  rw [← V_x m c r k]
  show (V m c main_v0 : S192x7168.Idx → EReal) (((cfg0.win 0).blk t).view.emb (ix2 r k)) = _
  rw [emb0]

/-- The packed bytes' block, read off the argument. -/
theorem iblk1_apply (c : Dev nD) (t : Fin cfg0.N) (q : Fin 3584) (l : Fin 512) :
    (iblk m c 1 t : S3584x512.Idx → BitVec 8) (ix2 q l)
      = (m ((c : Thread nD τ).loc main_arg1) : S3584x8192.Idx → BitVec 8) (ix2 q (col t l)) := by
  rw [← V_main_arg1 m c]
  show (V m c main_arg1 : S3584x8192.Idx → BitVec 8) (((cfg0.win 1).blk t).view.emb (ix2 q l)) = _
  rw [emb1]

/-- The scales' block, read off the argument. -/
theorem iblk2_apply (c : Dev nD) (t : Fin cfg0.N) (g : Fin 56) (l : Fin 512) :
    (iblk m c 2 t : S56x512.Idx → EReal) (ix2 g l)
      = (m ((c : Thread nD τ).loc main_arg2) : S56x8192.Idx → EReal) (ix2 g (col t l)) := by
  rw [← V_main_arg2 m c]
  show (V m c main_arg2 : S56x8192.Idx → EReal) (((cfg0.win 2).blk t).view.emb (ix2 g l)) = _
  rw [emb2]

/-- The result as a matrix. -/
def G (c : Dev nD) : S192x8192.Idx → EReal := fun i =>
  entry (m ((c : Thread nD τ).loc main_arg0)) (m ((c : Thread nD τ).loc main_arg1)) (m ((c : Thread nD τ).loc main_arg2)) (i 0) (i 1)

/-- What the body leaves in the result's buffer at grid point `t` is the payload of the three blocks. -/
theorem out_eq (x0 : Vec Ideal S192x7168 .bf16) (x1 : Vec Ideal S3584x512 .i8) (x2 : Vec Ideal S56x512 .bf16) :
    out0_3 x0 x1 x2 = k0_pay1 x1 x2 x0 := by
  unfold out0_3
  rw [View.canon_unit_zero hz, View.ld_unit_zero hz, View.ld_unit_zero hz, View.ld_unit_zero hz]

/-- At row `r`, lane `l` of block `t` that is the common value at row `r`, column `512 t + l`. -/
theorem out_apply (c : Dev nD) (t : Fin cfg0.N) (r : Fin 192) (l : Fin 512) :
    (out0_3 (iblk m c 0 t) (iblk m c 1 t) (iblk m c 2 t) : S192x512.Idx → EReal) (ix2 r l) = G m c (ix2 r (col t l)) := by
  rw [out_eq, k0_pay1_apply]
  unfold G entry
  refine Finset.sum_congr rfl fun k _ => ?_
  rw [iblk0_apply, iblk1_apply, iblk2_apply]
  rfl

/-- What grid point `t` writes back is block `t` of the common value. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext j
  obtain ⟨r, l, rfl⟩ : ∃ (r : Fin 192) (l : Fin 512), j = ix2 r l := ⟨j 0, j 1, eq_ix2 (n0 := 192) (n1 := 512) j⟩
  show (out0_3 (iblk m c 0 t) (iblk m c 1 t) (iblk m c 2 t) : S192x512.Idx → EReal) (ix2 r l)
    = G m c (((cfg0.win 3).blk t).view.emb (ix2 r l))
  rw [out_apply, emb3]

/-- Every column is in some block. -/
theorem covered (i : S192x8192.Idx) :
    ∃ t : Fin cfg0.N, (cfg0.win 3).flush t = true ∧ i ∈ ((cfg0.win 3).blk t).view.set := by
  have h1 : (i 1).val < 8192 := (i 1).isLt
  let t : Fin cfg0.N := ⟨(i 1).val / 512, lt_of_lt_of_eq (show (i 1).val / 512 < 16 by omega) N_0.symm⟩
  refine ⟨t, flush0_3 t, ?_⟩
  have h := ((cfg0.win 3).blk t).view.emb_mem_set (ix2 (⟨(i 0).val, (i 0).isLt⟩ : Fin 192) (⟨(i 1).val % 512, by omega⟩ : Fin 512))
  rw [emb3] at h
  have e : (ix2 (⟨(i 0).val, (i 0).isLt⟩ : Fin 192) (col t (⟨(i 1).val % 512, by omega⟩ : Fin 512)) : S192x8192.Idx) = i := by
    refine Shape.idx_ext₂ rfl ?_
    show 512 * ((i 1).val / 512) + (i 1).val % 512 = (i 1).val
    omega
  rwa [e] at h

/-- THE ARRAY after the run is the common value of the arguments. -/
theorem final (c : Dev nD) : (dats m 0 c).arrAt 3 cfg0.N = G m c :=
  (dats m 0 c).arrAt_eq_of_cover 3 (G m c) (fun t _ => flushed_eq m c t) covered

/-- The program's result: the matrix with a unit axis put back. -/
def result (c : Dev nD) : S192x1x8192.Idx → EReal := fun i =>
  entry (m ((c : Thread nD τ).loc main_arg0)) (m ((c : Thread nD τ).loc main_arg1)) (m ((c : Thread nD τ).loc main_arg2)) (i 0) (i 2)

/-- Putting the unit axis back on the matrix gives the result. -/
theorem result_eq (c : Dev nD) : shapeCast S192x1x8192 (G m c) shapeCasts_S192x8192_S192x1x8192 = result m c := by
  funext i
  have h1 : (i 1).val < 1 := (i 1).isLt
  exact shapeCast_apply (G m c) shapeCasts_S192x8192_S192x1x8192 i (ix2 (i 0) (i 2)) (by
    rw [Shape.rowMajor_val_two, Shape.rowMajor_val_three]
    show (i 0).val * 8192 + (i 2).val = ((i 0).val * 1 + (i 1).val) * 8192 + (i 2).val
    omega)

end Cert.Proof.Array

end
-- ==== Proof.Ref.lean ====
/-
  WHAT THE REFERENCE COMPUTES. It multiplies the even input features with the low codes and the odd ones with the high
  codes, each product contracted over groups and bytes, and adds the two. At every index that is the common value
  (`Spec.entry`): the two sums together run over the input features once each.
-/
module

public import proofs.«01_k».proof.Proof.Spec
public import proofs.«01_k».proof.Proof.Gen.ReferenceIdeal
public import proofs.«01_k».proof.Proof.Gen.ReferenceIdeal.Read
public import Idealize.ShloMosaic.Lib.ValueIdx
public import Idealize.ShloMosaic.Lib.TwoAxisContraction

@[expose] public section

set_option maxRecDepth 16384

noncomputable section

open scoped BigOperators

namespace Cert.Proof.Ref

open Idealize.ShloMosaic Idealize.ShloMosaic.ValueIdx Cert.ReferenceIdeal Cert.ReferenceIdeal.Gen Cert.ReferenceIdeal.Read
open Cert.Proof.Words Cert.Proof.Spec

variable (x0 : (⟨S192x1x7168, .bf16⟩ : BufTy).Contents (Elt Ideal)) (x1 : (⟨S3584x8192, .i8⟩ : BufTy).Contents (Elt Ideal))
  (x2 : (⟨S56x8192, .bf16⟩ : BufTy).Contents (Elt Ideal))

/-- The activations regrouped: group `g`, byte `h`, half `b` is input feature `128 g + 2 h + b`. -/
theorem v0_apply (r : Fin 192) (g : Fin 56) (h : Fin 64) (b : Fin 2) :
    val_main_v0 (F := Ideal) x0 (ix4 r g h b) = x0 (ix3 r (0 : Fin 1) (feature g h b)) :=
  shapeCast_apply x0 shapeCasts_S192x1x7168_S192x56x64x2 (ix4 r g h b) (ix3 r (0 : Fin 1) (feature g h b)) (by
    rw [Shape.rowMajor_val_three, Shape.rowMajor_val_four]
    show (r.val * 1 + 0) * 7168 + (128 * g.val + 2 * h.val + b.val) = ((r.val * 56 + g.val) * 64 + h.val) * 2 + b.val
    omega)

/-- The even features. -/
theorem v2_apply (r : Fin 192) (g : Fin 56) (h : Fin 64) :
    val_main_v2 (F := Ideal) x0 (ix3 r g h) = x0 (ix3 r (0 : Fin 1) (feature g h 0)) := by
  refine Eq.trans ?_ (v0_apply x0 r g h 0)
  refine (shapeCast_apply (val_main_v1 (F := Ideal) x0) shapeCasts_S192x56x64x1_S192x56x64 (ix3 r g h) (ix4 r g h (0 : Fin 1)) (by
    rw [Shape.rowMajor_val_three, Shape.rowMajor_val_four]
    show ((r.val * 56 + g.val) * 64 + h.val) * 1 + 0 = (r.val * 56 + g.val) * 64 + h.val
    omega)).trans ?_
  rw [val_main_v1_apply]
  congr 1
  funext a
  match a with
  | ⟨0, _⟩ => rfl
  | ⟨1, _⟩ => rfl
  | ⟨2, _⟩ => rfl
  | ⟨3, _⟩ => rfl

/-- The odd features. -/
theorem v4_apply (r : Fin 192) (g : Fin 56) (h : Fin 64) :
    val_main_v4 (F := Ideal) x0 (ix3 r g h) = x0 (ix3 r (0 : Fin 1) (feature g h 1)) := by
  refine Eq.trans ?_ (v0_apply x0 r g h 1)
  refine (shapeCast_apply (val_main_v3 (F := Ideal) x0) shapeCasts_S192x56x64x1_S192x56x64 (ix3 r g h) (ix4 r g h (0 : Fin 1)) (by
    rw [Shape.rowMajor_val_three, Shape.rowMajor_val_four]
    show ((r.val * 56 + g.val) * 64 + h.val) * 1 + 0 = (r.val * 56 + g.val) * 64 + h.val
    omega)).trans ?_
  rw [val_main_v3_apply]
  congr 1
  funext a
  match a with
  | ⟨0, _⟩ => rfl
  | ⟨1, _⟩ => rfl
  | ⟨2, _⟩ => rfl
  | ⟨3, _⟩ => rfl

/-- The packed bytes by group: byte `h` of group `g` is row `64 g + h`, widened. -/
theorem v6_apply (g : Fin 56) (h : Fin 64) (n : Fin 8192) :
    val_main_v6 (F := Ideal) x1 (ix3 g h n) = (x1 (ix2 (⟨64 * g.val + h.val, by omega⟩ : Fin 3584) n) : BitVec 8).setWidth 32 := by
  rw [val_main_v6_apply]
  congr 1
  exact shapeCast_apply x1 shapeCasts_S3584x8192_S56x64x8192 (ix3 g h n) (ix2 (⟨64 * g.val + h.val, by omega⟩ : Fin 3584) n) (by
    rw [Shape.rowMajor_val_two, Shape.rowMajor_val_three]
    show (64 * g.val + h.val) * 8192 + n.val = (g.val * 64 + h.val) * 8192 + n.val
    omega)

/-- The scale of a group, at every byte of the group. -/
theorem v13_apply (g : Fin 56) (h : Fin 64) (n : Fin 8192) : val_main_v13 (F := Ideal) x2 (ix3 g h n) = x2 (ix2 g n) := by
  rw [val_main_v13_apply, val_main_v7_apply]
  congr 1
  exact Shape.idx_ext₂ rfl rfl
/-- The same, for the high codes. -/
theorem v20_apply (g : Fin 56) (h : Fin 64) (n : Fin 8192) : val_main_v20 (F := Ideal) x2 (ix3 g h n) = x2 (ix2 g n) := by
  rw [val_main_v20_apply, val_main_v7_apply]
  congr 1
  exact Shape.idx_ext₂ rfl rfl

/-- The dequantized low codes are the even features' weights. -/
theorem v14_apply (g : Fin 56) (h : Fin 64) (n : Fin 8192) :
    val_main_v14 (F := Ideal) x1 x2 (ix3 g h n) = weight x1 x2 (feature g h 0) n := by
  rw [val_main_v14_apply, val_main_v12_apply, val_main_v10_apply, val_main_v9_apply, val_main_v11_apply, val_main_v8_apply,
    val_main_c_apply, val_main_cst_apply, v6_apply, v13_apply, weight_feature]
  exact congrArg (· * (x2 (ix2 g n) : EReal)) (sub_eight _ _ (ref_low _))

/-- The dequantized high codes are the odd features' weights. -/
theorem v21_apply (g : Fin 56) (h : Fin 64) (n : Fin 8192) :
    val_main_v21 (F := Ideal) x1 x2 (ix3 g h n) = weight x1 x2 (feature g h 1) n := by
  rw [val_main_v21_apply, val_main_v19_apply, val_main_v17_apply, val_main_v16_apply, val_main_v18_apply, val_main_v15_apply,
    val_main_c_0_apply, val_main_cst_1_apply, v6_apply, v20_apply, weight_feature]
  exact congrArg (· * (x2 (ix2 g n) : EReal)) (sub_eight _ _ (ref_high _))

/-- The two products' dimension numbers: groups and bytes are contracted. -/
abbrev D : DotDims S192x56x64 S56x64x8192 S192x8192 := dot_S192x56x64_S56x64x8192_S192x8192_12_01_0_2_n_n

/-- Axis 0 of the left operand's index. -/
theorem D_lhs0 (j : S192x8192.Idx) (q : D.contr.Idx) : (D.lhsIdx j q 0 : ℕ) = j 0 := by
  simp [DotDims.lhsIdx, D, dot_S192x56x64_S56x64x8192_S192x8192_12_01_0_2_n_n]; rfl
/-- Axis 1 of the left operand's index. -/
theorem D_lhs1 (j : S192x8192.Idx) (q : D.contr.Idx) : (D.lhsIdx j q 1 : ℕ) = q ⟨0, by decide⟩ := by
  simp [DotDims.lhsIdx, D, dot_S192x56x64_S56x64x8192_S192x8192_12_01_0_2_n_n]; rfl
/-- Axis 2 of the left operand's index. -/
theorem D_lhs2 (j : S192x8192.Idx) (q : D.contr.Idx) : (D.lhsIdx j q 2 : ℕ) = q ⟨1, by decide⟩ := by
  simp [DotDims.lhsIdx, D, dot_S192x56x64_S56x64x8192_S192x8192_12_01_0_2_n_n]; rfl
/-- Axis 0 of the right operand's index. -/
theorem D_rhs0 (j : S192x8192.Idx) (q : D.contr.Idx) : (D.rhsIdx j q 0 : ℕ) = q ⟨0, by decide⟩ := by
  simp [DotDims.rhsIdx, D, dot_S192x56x64_S56x64x8192_S192x8192_12_01_0_2_n_n]; rfl
/-- Axis 1 of the right operand's index. -/
theorem D_rhs1 (j : S192x8192.Idx) (q : D.contr.Idx) : (D.rhsIdx j q 1 : ℕ) = q ⟨1, by decide⟩ := by
  simp [DotDims.rhsIdx, D, dot_S192x56x64_S56x64x8192_S192x8192_12_01_0_2_n_n]; rfl
/-- Axis 2 of the right operand's index. -/
theorem D_rhs2 (j : S192x8192.Idx) (q : D.contr.Idx) : (D.rhsIdx j q 2 : ℕ) = j 1 := by
  simp [DotDims.rhsIdx, D, dot_S192x56x64_S56x64x8192_S192x8192_12_01_0_2_n_n]; rfl

/-- One such product at row `r`, column `n`: the double sum over groups and bytes. -/
theorem product_apply (a : FVec Ideal S192x56x64 .bf16) (w : FVec Ideal S56x64x8192 .bf16) (r : Fin 192) (n : Fin 8192) :
    (Host.dotGeneral D none a w : FVec Ideal S192x8192 .f32) (ix2 r n)
      = ∑ g : Fin 56, ∑ h : Fin 64, a (ix3 r g h) * w (ix3 g h n) := by
  show (0 : EReal) + ∑ q : D.contr.Idx, a (D.lhsIdx (ix2 r n) q) * w (D.rhsIdx (ix2 r n) q) = _
  rw [zero_add, ← Equiv.sum_comp (contrEquiv2 D 56 64 (by decide) (by decide) (by decide)).symm, Fintype.sum_prod_type]
  refine Finset.sum_congr rfl fun g _ => Finset.sum_congr rfl fun h _ => ?_
  have q0 := contrEquiv2_symm_val0 D 56 64 (by decide) (by decide) (by decide) (g, h)
  have q1 := contrEquiv2_symm_val1 D 56 64 (by decide) (by decide) (by decide) (g, h)
  have e1 : D.lhsIdx (ix2 r n) ((contrEquiv2 D 56 64 (by decide) (by decide) (by decide)).symm (g, h)) = ix3 r g h := by
    funext d
    match d with
    | ⟨0, _⟩ => exact Fin.ext (D_lhs0 _ _)
    | ⟨1, _⟩ => exact Fin.ext ((D_lhs1 _ _).trans q0)
    | ⟨2, _⟩ => exact Fin.ext ((D_lhs2 _ _).trans q1)
  have e2 : D.rhsIdx (ix2 r n) ((contrEquiv2 D 56 64 (by decide) (by decide) (by decide)).symm (g, h)) = ix3 g h n := by
    funext d
    match d with
    | ⟨0, _⟩ => exact Fin.ext ((D_rhs0 _ _).trans q0)
    | ⟨1, _⟩ => exact Fin.ext ((D_rhs1 _ _).trans q1)
    | ⟨2, _⟩ => exact Fin.ext (D_rhs2 _ _)
  rw [e1, e2]

/-- The reference's matrix at row `r`, column `n` is the common value. -/
theorem v25_apply (r : Fin 192) (n : Fin 8192) : val_main_v25 (F := Ideal) x0 x1 x2 (ix2 r n) = entry x0 x1 x2 r n := by
  have e22 : val_main_v22 (F := Ideal) x0 x1 x2 (ix2 r n)
      = ∑ g : Fin 56, ∑ h : Fin 64, x0 (ix3 r (0 : Fin 1) (feature g h 0)) * weight x1 x2 (feature g h 0) n := by
    refine (product_apply _ _ r n).trans ?_
    refine Finset.sum_congr rfl fun g _ => Finset.sum_congr rfl fun h _ => ?_
    rw [v2_apply, v14_apply]
  have e23 : val_main_v23 (F := Ideal) x0 x1 x2 (ix2 r n)
      = ∑ g : Fin 56, ∑ h : Fin 64, x0 (ix3 r (0 : Fin 1) (feature g h 1)) * weight x1 x2 (feature g h 1) n := by
    refine (product_apply _ _ r n).trans ?_
    refine Finset.sum_congr rfl fun g _ => Finset.sum_congr rfl fun h _ => ?_
    rw [v4_apply, v21_apply]
  have e : val_main_v25 (F := Ideal) x0 x1 x2 (ix2 r n)
      = (val_main_v22 (F := Ideal) x0 x1 x2 (ix2 r n) : EReal) + val_main_v23 (F := Ideal) x0 x1 x2 (ix2 r n) := rfl
  rw [e, e22, e23, entry, sum_features]

/-- THE REFERENCE'S RESULT at an index. -/
theorem v26_apply (i : S192x1x8192.Idx) : val_main_v26 (F := Ideal) x0 x1 x2 i = entry x0 x1 x2 (i 0) (i 2) := by
  refine Eq.trans ?_ (v25_apply x0 x1 x2 (i 0) (i 2))
  have h1 : (i 1).val < 1 := (i 1).isLt
  exact shapeCast_apply (val_main_v25 (F := Ideal) x0 x1 x2) shapeCasts_S192x8192_S192x1x8192 i (ix2 (i 0) (i 2)) (by
    rw [Shape.rowMajor_val_two, Shape.rowMajor_val_three]
    show (i 0).val * 8192 + (i 2).val = ((i 0).val * 1 + (i 1).val) * 8192 + (i 2).val
    omega)

end Cert.Proof.Ref

end
-- ==== Proof.lean ====
/-
  THE CLAIMS, assembled. The kernel's two runs and the reference's leave the arguments as they were and every semaphore at zero;
  the idealization is the program's own text; and over the reals the kernel's result and the reference's are the same at
  every index, both being `Spec.entry` of the arguments (Proof/Array.lean for the kernel, Proof/Ref.lean for the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Ref
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The host line after the grid reads the result matrix and puts a unit axis back, whatever the buffers hold. -/
theorem tail_apply (W : Valuation Cert.KernelIdeal.τ Cert.KernelIdeal.sig (Elt Ideal)) :
    StableHlo.after [Cert.KernelIdeal.Gen.hostOps1].flatten W (Proc.tc.devRef Cert.KernelIdeal.main_v2)
      = shapeCast Cert.KernelIdeal.S192x1x8192 (W (Proc.tc.devRef Cert.KernelIdeal.main_v1))
          Cert.KernelIdeal.Gen.shapeCasts_S192x8192_S192x1x8192 := by
  show StableHlo.after [StableHlo.reshape _ _ _ _] W _ = _
  rw [StableHlo.after_cons, StableHlo.after_nil]
  exact StableHlo.reshape_result _ _ _ _ _ _ W

/-- What the kernel's host line leaves in the result, over the reals: the common value of the arguments. -/
theorem kernel_result (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (Cert.KernelIdeal.Gen.dats m) 0 (Cert.KernelIdeal.Gen.V0 m)
      [Cert.KernelIdeal.Gen.hostOps1] c Cert.KernelIdeal.main_v2 = Array.result m c := by
  rw [← Array.result_eq, ← Array.final]
  unfold Pipeline.afterTail₀
  refine (tail_apply _).trans ?_
  congr 1
  exact Pipeline.withArrays_arr (Cert.KernelIdeal.cfgs 0).spec (by decide) c _ _ 3

/-- The reference runs, leaves its arguments unchanged and, declaring no semaphore, leaves none raised. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE CLAIM: from the same arguments, over the reals, the kernel and the reference end with the same result, and
    with their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Array.result m c, ?_, ?_⟩
  · run_from Cert.KernelIdeal.Gen.run_main m g
    · exact kernel_result m c
    · exact Cert.KernelIdeal.Gen.W_main_arg0 m _ c
  · refine (θ_run Cert.ReferenceIdeal.defs _ _).mono (fun r h c => ⟨(h c).1.trans ?_, (h c).2⟩)
      (Cert.ReferenceIdeal.Value.run (F := Ideal) m' g')
    refine (Cert.ReferenceIdeal.Read.val_main_v26_eq _ _ _).trans ?_
    obtain ⟨h0, h1, h2⟩ := hagree c
    rw [h0, h1, h2]
    funext i
    exact Ref.v26_apply _ _ _ i

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
